-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_size_nonzero [hPre_size_nonzero : Cert.Pre_size_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_size_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_size_nonzero [hPre_size_nonzero : Cert.Pre_size_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_size_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_size_nonzero [hKernelIdeal : Cert.KernelIdeal.Facts] [hPre_size_nonzero : Cert.Pre_size_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_size_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_size_nonzero [hReferenceIdeal : Cert.ReferenceIdeal.Facts] [hPre_size_nonzero : Cert.Pre_size_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_size_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_size_nonzero [hKernelIdeal : Cert.KernelIdeal.Facts] [hReferenceIdeal : Cert.ReferenceIdeal.Facts] [hPre_size_nonzero : Cert.Pre_size_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_size_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_size_nonzero : Cert.Pre_size_nonzero.Facts),
    quiescent_Kernel (hKernel := hKernel)
    ∧ quiescent_KernelIdeal (hKernelIdeal := hKernelIdeal)
    ∧ quiescent_KernelIdeal_pre_size_nonzero (hKernelIdeal := hKernelIdeal) (hPre_size_nonzero := hPre_size_nonzero)
    ∧ quiescent_ReferenceIdeal (hReferenceIdeal := hReferenceIdeal)
    ∧ quiescent_ReferenceIdeal_pre_size_nonzero (hReferenceIdeal := hReferenceIdeal) (hPre_size_nonzero := hPre_size_nonzero)
    ∧ preserves_Kernel_KernelIdeal
    ∧ algebraic_KernelIdeal_ReferenceIdeal_pre_size_nonzero (hKernelIdeal := hKernelIdeal) (hReferenceIdeal := hReferenceIdeal) (hPre_size_nonzero := hPre_size_nonzero)
-- ==== Pre_size_nonzero.lean ====
abbrev S8x42x152x152 : Shape := ⟨4, ![8, 42, 152, 152]⟩
abbrev S_ : Shape := ⟨0, ![]⟩

class Facts : Prop where

variable [Facts]

def fn {F : FTy → Type} [FloatOps F] (main_arg0 : FVec F S8x42x152x152 .f32) (main_arg1 : IVec S_ 32) : IVec S_ 1 :=
  let main_c : IVec S_ 32 := constantI S_ 32 0#32
  let main_v0 : IVec S_ 1 := cmpi .ne main_arg1 main_c
  main_v0
-- ==== Kernel.lean ====
abbrev S8x42x152x152 : Shape := ⟨4, ![8, 42, 152, 152]⟩
abbrev S_ : Shape := ⟨0, ![]⟩
abbrev S1 : Shape := ⟨1, ![1]⟩
abbrev S8x3x23104x11 : Shape := ⟨4, ![8, 3, 23104, 11]⟩
abbrev S8x69312x11 : Shape := ⟨3, ![8, 69312, 11]⟩
abbrev S1x14x152x152 : Shape := ⟨4, ![1, 14, 152, 152]⟩
abbrev S1x1x23104x11 : Shape := ⟨4, ![1, 1, 23104, 11]⟩
abbrev S14x152x152 : Shape := ⟨3, ![14, 152, 152]⟩
abbrev S1x152x152 : Shape := ⟨3, ![1, 152, 152]⟩
abbrev S2x152x152 : Shape := ⟨3, ![2, 152, 152]⟩
abbrev S152x152 : Shape := ⟨2, ![152, 152]⟩
abbrev S4x152x152 : Shape := ⟨3, ![4, 152, 152]⟩
abbrev S11x152x152 : Shape := ⟨3, ![11, 152, 152]⟩
abbrev S11x1x152 : Shape := ⟨3, ![11, 1, 152]⟩
abbrev S11x152 : Shape := ⟨2, ![11, 152]⟩
abbrev S152x11 : Shape := ⟨2, ![152, 11]⟩
abbrev S1x1x152x11 : Shape := ⟨4, ![1, 1, 152, 11]⟩

abbrev nBuf : Space → Nat
  | .hbm => 8
  | .vmem => 4
  | .smem => 1
  | _ => 0

abbrev bufTy : (tb : Table) → Fin (tcTables nBuf tb) → BufTy
  | .hbm, ⟨0, _⟩ => ⟨S8x42x152x152, .f32⟩
  | .hbm, ⟨1, _⟩ => ⟨S_, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S8x3x23104x11, .f32⟩
  | .hbm, ⟨7, _⟩ => ⟨S8x69312x11, .f32⟩
  | .local _ .vmem, ⟨0, _⟩ => ⟨S1x14x152x152, .f32⟩
  | .local _ .vmem, ⟨1, _⟩ => ⟨S1x14x152x152, .f32⟩
  | .local _ .vmem, ⟨2, _⟩ => ⟨S1x1x23104x11, .f32⟩
  | .local _ .vmem, ⟨3, _⟩ => ⟨S1x1x23104x11, .f32⟩
  | .local _ .smem, ⟨0, _⟩ => ⟨S1, .f32⟩
  | _, _ => ⟨S8x42x152x152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 3], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg0.toNat, v16.toNat, v26.toNat, c0_i32_11.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x14x152x152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x23104x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x42x152x152 : Shape := ⟨4, ![8, 42, 152, 152]⟩
abbrev S_ : Shape := ⟨0, ![]⟩
abbrev S3x4 : Shape := ⟨2, ![3, 4]⟩
abbrev S8x3x14x152x152 : Shape := ⟨5, ![8, 3, 14, 152, 152]⟩
abbrev S8x3x152x152x14 : Shape := ⟨5, ![8, 3, 152, 152, 14]⟩
abbrev S8x3x152x152x1 : Shape := ⟨5, ![8, 3, 152, 152, 1]⟩
abbrev S8x3x152x152 : Shape := ⟨4, ![8, 3, 152, 152]⟩
abbrev S8x3x152x152x4 : Shape := ⟨5, ![8, 3, 152, 152, 4]⟩
abbrev S8x3x152x152x3 : Shape := ⟨5, ![8, 3, 152, 152, 3]⟩
abbrev S152 : Shape := ⟨1, ![152]⟩
abbrev S1x152 : Shape := ⟨2, ![1, 152]⟩
abbrev S1x1x1x152 : Shape := ⟨4, ![1, 1, 1, 152]⟩
abbrev S152x1x1x152 : Shape := ⟨4, ![152, 1, 1, 152]⟩
abbrev S152x152 : Shape := ⟨2, ![152, 152]⟩
abbrev S1x1x152x152 : Shape := ⟨4, ![1, 1, 152, 152]⟩
abbrev S3x1 : Shape := ⟨2, ![3, 1]⟩
abbrev S3 : Shape := ⟨1, ![3]⟩
abbrev S1x3x1x1 : Shape := ⟨4, ![1, 3, 1, 1]⟩
abbrev S8x69312x4 : Shape := ⟨3, ![8, 69312, 4]⟩
abbrev S8x69312x3 : Shape := ⟨3, ![8, 69312, 3]⟩
abbrev S8x69312x1 : Shape := ⟨3, ![8, 69312, 1]⟩
abbrev S8x69312x11 : Shape := ⟨3, ![8, 69312, 11]⟩

abbrev nBuf : Space → Nat
  | .hbm => 139
  | .vmem => 0
  | .smem => 0
  | _ => 0

abbrev hbmTy0_0 (i : Nat) : BufTy := match i % 128 with
  | 0 => ⟨S8x42x152x152, .f32⟩
  | 1 => ⟨S_, .i32⟩
  | 2 => ⟨S3x4, .f32⟩
  | 3 => ⟨S8x3x14x152x152, .f32⟩
  | 4 => ⟨S8x3x152x152x14, .f32⟩
  | 5 => ⟨S8x3x152x152x1, .f32⟩
  | 6 => ⟨S8x3x152x152, .f32⟩
  | 7 => ⟨S8x3x152x152, .f32⟩
  | 8 => ⟨S8x3x152x152, .f32⟩
  | 9 => ⟨S_, .f32⟩
  | 10 => ⟨S8x3x152x152, .f32⟩
  | 11 => ⟨S8x3x152x152, .f32⟩
  | 12 => ⟨S_, .f32⟩
  | 13 => ⟨S8x3x152x152, .f32⟩
  | 14 => ⟨S8x3x152x152, .f32⟩
  | 15 => ⟨S_, .f32⟩
  | 16 => ⟨S8x3x152x152, .f32⟩
  | 17 => ⟨S8x3x152x152, .f32⟩
  | 18 => ⟨S_, .f32⟩
  | 19 => ⟨S8x3x152x152, .f32⟩
  | 20 => ⟨S8x3x152x152, .f32⟩
  | 21 => ⟨S8x3x152x152x1, .f32⟩
  | 22 => ⟨S8x3x152x152, .f32⟩
  | 23 => ⟨S8x3x152x152, .f32⟩
  | 24 => ⟨S8x3x152x152, .f32⟩
  | 25 => ⟨S_, .f32⟩
  | 26 => ⟨S8x3x152x152, .f32⟩
  | 27 => ⟨S8x3x152x152, .f32⟩
  | 28 => ⟨S_, .f32⟩
  | 29 => ⟨S8x3x152x152, .f32⟩
  | 30 => ⟨S8x3x152x152, .f32⟩
  | 31 => ⟨S_, .f32⟩
  | 32 => ⟨S8x3x152x152, .f32⟩
  | 33 => ⟨S8x3x152x152, .f32⟩
  | 34 => ⟨S_, .f32⟩
  | 35 => ⟨S8x3x152x152, .f32⟩
  | 36 => ⟨S8x3x152x152, .f32⟩
  | 37 => ⟨S8x3x152x152x1, .f32⟩
  | 38 => ⟨S8x3x152x152, .f32⟩
  | 39 => ⟨S8x3x152x152x1, .f32⟩
  | 40 => ⟨S8x3x152x152, .f32⟩
  | 41 => ⟨S8x3x152x152x1, .f32⟩
  | 42 => ⟨S8x3x152x152, .f32⟩
  | 43 => ⟨S8x3x152x152, .f32⟩
  | 44 => ⟨S8x3x152x152, .f32⟩
  | 45 => ⟨S_, .f32⟩
  | 46 => ⟨S8x3x152x152, .f32⟩
  | 47 => ⟨S8x3x152x152, .f32⟩
  | 48 => ⟨S_, .f32⟩
  | 49 => ⟨S8x3x152x152, .f32⟩
  | 50 => ⟨S8x3x152x152, .f32⟩
  | 51 => ⟨S8x3x152x152x1, .f32⟩
  | 52 => ⟨S8x3x152x152, .f32⟩
  | 53 => ⟨S8x3x152x152, .f32⟩
  | 54 => ⟨S8x3x152x152, .f32⟩
  | 55 => ⟨S_, .f32⟩
  | 56 => ⟨S8x3x152x152, .f32⟩
  | 57 => ⟨S8x3x152x152, .f32⟩
  | 58 => ⟨S_, .f32⟩
  | 59 => ⟨S8x3x152x152, .f32⟩
  | 60 => ⟨S8x3x152x152, .f32⟩
  | 61 => ⟨S8x3x152x152x4, .f32⟩
  | 62 => ⟨S8x3x152x152x1, .f32⟩
  | 63 => ⟨S8x3x152x152, .f32⟩
  | 64 => ⟨S8x3x152x152, .f32⟩
  | 65 => ⟨S8x3x152x152, .f32⟩
  | 66 => ⟨S_, .f32⟩
  | 67 => ⟨S8x3x152x152, .f32⟩
  | 68 => ⟨S8x3x152x152, .f32⟩
  | 69 => ⟨S_, .f32⟩
  | 70 => ⟨S8x3x152x152, .f32⟩
  | 71 => ⟨S8x3x152x152, .f32⟩
  | 72 => ⟨S8x3x152x152x3, .f32⟩
  | 73 => ⟨S8x3x152x152x3, .f32⟩
  | 74 => ⟨S8x3x152x152x3, .f32⟩
  | 75 => ⟨S_, .f32⟩
  | 76 => ⟨S8x3x152x152x3, .f32⟩
  | 77 => ⟨S8x3x152x152x3, .f32⟩
  | 78 => ⟨S_, .f32⟩
  | 79 => ⟨S8x3x152x152x3, .f32⟩
  | 80 => ⟨S8x3x152x152x3, .f32⟩
  | 81 => ⟨S_, .f32⟩
  | 82 => ⟨S_, .f32⟩
  | 83 => ⟨S_, .f32⟩
  | 84 => ⟨S152, .f32⟩
  | 85 => ⟨S1x152, .f32⟩
  | 86 => ⟨S1x1x1x152, .f32⟩
  | 87 => ⟨S152x1x1x152, .f32⟩
  | 88 => ⟨S152x152, .f32⟩
  | 89 => ⟨S1x1x152x152, .f32⟩
  | 90 => ⟨S152, .f32⟩
  | 91 => ⟨S1x152, .f32⟩
  | 92 => ⟨S1x1x1x152, .f32⟩
  | 93 => ⟨S152x1x1x152, .f32⟩
  | 94 => ⟨S152x152, .f32⟩
  | 95 => ⟨S152x152, .f32⟩
  | 96 => ⟨S1x1x152x152, .f32⟩
  | 97 => ⟨S3x1, .f32⟩
  | 98 => ⟨S3, .f32⟩
  | 99 => ⟨S3, .f32⟩
  | 100 => ⟨S3, .f32⟩
  | 101 => ⟨S1x3x1x1, .f32⟩
  | 102 => ⟨S3x1, .f32⟩
  | 103 => ⟨S3, .f32⟩
  | 104 => ⟨S3, .f32⟩
  | 105 => ⟨S3, .f32⟩
  | 106 => ⟨S1x3x1x1, .f32⟩
  | 107 => ⟨S8x3x152x152, .f32⟩
  | 108 => ⟨S8x3x152x152, .f32⟩
  | 109 => ⟨S8x3x152x152, .f32⟩
  | 110 => ⟨S8x3x152x152, .f32⟩
  | 111 => ⟨S8x3x152x152, .f32⟩
  | 112 => ⟨S8x3x152x152, .f32⟩
  | 113 => ⟨S8x3x152x152, .f32⟩
  | 114 => ⟨S8x3x152x152, .f32⟩
  | 115 => ⟨S8x3x152x152, .f32⟩
  | 116 => ⟨S8x3x152x152, .f32⟩
  | 117 => ⟨S8x3x152x152x4, .i32⟩
  | 118 => ⟨S_, .f32⟩
  | 119 => ⟨S_, .i32⟩
  | 120 => ⟨S8x3x152x152, .f32⟩
  | 121 => ⟨S8x3x152x152, .i32⟩
  | 122 => ⟨S8x3x152x152, .f32⟩
  | 123 => ⟨S8x3x152x152x1, .f32⟩
  | 124 => ⟨S8x3x152x152x1, .f32⟩
  | 125 => ⟨S8x3x152x152x1, .f32⟩
  | 126 => ⟨S8x3x152x152x1, .f32⟩
  | 127 => ⟨S8x3x152x152x4, .f32⟩
  | _ => ⟨S8x42x152x152, .f32⟩

abbrev hbmTy0_1 (i : Nat) : BufTy := match i % 128 with
  | 0 => ⟨S8x69312x4, .f32⟩
  | 1 => ⟨S8x69312x4, .f32⟩
  | 2 => ⟨S8x69312x4, .f32⟩
  | 3 => ⟨S8x3x152x152x1, .f32⟩
  | 4 => ⟨S8x3x152x152x1, .f32⟩
  | 5 => ⟨S8x3x152x152x1, .f32⟩
  | 6 => ⟨S8x3x152x152x3, .f32⟩
  | 7 => ⟨S8x69312x3, .f32⟩
  | 8 => ⟨S8x69312x1, .f32⟩
  | 9 => ⟨S8x69312x3, .f32⟩
  | 10 => ⟨S8x69312x11, .f32⟩
  | _ => ⟨S8x42x152x152, .f32⟩

abbrev hbmTy (i : Nat) : BufTy := match i / 128 with
  | 0 => hbmTy0_0 i
  | 1 => hbmTy0_1 i
  | _ => ⟨S8x42x152x152, .f32⟩

abbrev bufTy : (tb : Table) → Fin (tcTables nBuf tb) → BufTy
  | .hbm, ⟨i, _⟩ => hbmTy i
  | _, _ => ⟨S8x42x152x152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_14 : Ref sig .tc := ⟨.hbm, 75, rfl⟩
abbrev main_v58 : Ref sig .tc := ⟨.hbm, 76, rfl⟩
abbrev main_v59 : Ref sig .tc := ⟨.hbm, 77, rfl⟩
abbrev main_cst_15 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_16 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_call0_v0 : Ref sig .tc := ⟨.hbm, 117, rfl⟩
abbrev main_call0_cst : Ref sig .tc := ⟨.hbm, 118, rfl⟩
abbrev main_call0_c : Ref sig .tc := ⟨.hbm, 119, rfl⟩
abbrev main_call0_v1_0 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩

abbrev nD : Nat := 1
abbrev τ : Topo := Topo.v7x

variable {F : FTy → Type} [FloatOps F]
-- ==== Proof.KernelRows.lean ====
/-
  The block one grid point of the kernel writes, as a whole.

  The body computes one 11×152×152 array (eleven channels of a 152×152 image) and stores it one image row at a time,
  each row turned so that the channels come last: 152 stores, row `y` at places `152·y … 152·y + 151`. Here that list
  of stores is written as ONE recursion over the image rows, and the block they leave is read off: at place `q`, channel
  `k`, it holds the array's channel `k` at image row `q / 152`, column `q % 152`.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Proof.Rows

open Cert.KernelIdeal Cert.KernelIdeal.Gen Idealize.ShloMosaic Idealize.ShloMosaic.TcCoe Idealize.SL.Sem

variable {F : FTy → Type} [FloatOps F]

/-- Image row `y` sits inside the block of 152·152 places. -/
theorem row_inb (y : ℕ) (h : y < 152) : ∀ a, (![0, 0, 152 * y, 0] : Fin 4 → ℕ) a + (![1, 1, 152, 11] : Fin 4 → ℕ) a ≤ S1x1x23104x11.size a := by
  intro a
  fin_cases a <;> simp [S1x1x23104x11] <;> omega

/-- Image row `y` of the array is a slice of it. -/
theorem row_slices (y : ℕ) (h : y < 152) : S11x152x152.Slices ![0, y, 0] S11x1x152 := by
  refine ⟨rfl, fun a => ?_⟩
  fin_cases a <;> simp [S11x152x152, S11x1x152] <;> omega

/-- Where row `y` is stored. -/
def rowRect (y : ℕ) (h : y < 152) : Rect S1x1x23104x11 := Rect.unit ![0, 0, 152 * y, 0] ![1, 1, 152, 11] (row_inb y h)

/-- What is stored there: row `y` of the array, channels last. -/
def rowVal (val : FVec F S11x152x152 .f32) (y : ℕ) (h : y < 152) : FVec F S1x1x152x11 .f32 :=
  shapeCast S1x1x152x11 (transpose S152x11 [1, 0] (shapeCast S11x152 (extractStridedSlice S11x1x152 ![0, y, 0] val (row_slices y h))
    shapeCasts_S11x1x152_S11x152) transposes_S11x152_p1_0_S152x11) shapeCasts_S152x11_S1x1x152x11

/-- The stores of the first `n` image rows, the last one first. -/
def rows (val : FVec F S11x152x152 .f32) : (n : ℕ) → n ≤ 152 → List (View.Piece (Elt F) S1x1x23104x11 .f32)
  | 0, _ => []
  | n + 1, h => ⟨rowRect n h, rowVal val n h⟩ :: rows val n (Nat.le_of_succ_le h)

/-- Every store of the list is some image row's. -/
theorem mem_rows (val : FVec F S11x152x152 .f32) : ∀ (n : ℕ) (hn : n ≤ 152) (p : View.Piece (Elt F) S1x1x23104x11 .f32),
    p ∈ rows val n hn → ∃ y, ∃ h : y < 152, p = ⟨rowRect y h, rowVal val y h⟩
  | 0, _, _, hp => absurd hp List.not_mem_nil
  | n + 1, hn, p, hp => by
    rcases List.mem_cons.mp hp with rfl | hp
    · exact ⟨n, hn, rfl⟩
    · exact mem_rows val n _ p hp

/-- The grid's second coordinate less its quotient by 1 (both as the kernel computes them), times 152: the first image
    row of the point's block. -/
def firstRow (i : grid0.Coords) : BitVec 32 := kernelRun0_A.sl.v22 i

variable (c : Dev nD) (i : grid0.Coords)
  (arg2 : Memref sig .tc .smem S1 .f32) (harg2 : arg2.IsWhole) (arg3 : Memref sig .tc .vmem S1x14x152x152 .f32) (harg3 : arg3.IsWhole)
  (arg4 : Memref sig .tc .vmem S1x1x23104x11 .f32) (harg4 : arg4.IsWhole) (x0 : Vec F S1 .f32) (x1 : Vec F S1x14x152x152 .f32)

/-- The array the body computes, of the stride and the block of predictions it loads. -/
def loaded : FVec F S11x152x152 .f32 :=
  k0_pay5 (k0_pay3 (View.readAt (Elt F) arg3.view
      (Rect.unit ![0, 0, 0, 0] S1x14x152x152.size inb_S1x14x152x152_S1x14x152x152_0_0_0_0).toLoadRect (harg3.unread x1)))
    (View.readAt (Elt F) arg2.view (Rect.unit ![0] S1.size inb_S1_S1_0).toLoadRect (harg2.unread x0) (Shape.Idx.first (by decide)))
    (firstRow i) (k0_pay4 i)

/-- The body's stores are the 152 image rows of that array. -/
theorem pieces_eq : (kernelRun0_A c i arg2 harg2 arg3 harg3 arg4 harg4 x0 x1).1 = rows (loaded i arg2 harg2 arg3 harg3 x0 x1) 152 le_rfl := by
  rfl

/-- A row as stored, at a place: channel `x 3` of image row `y`, column `x 2`. -/
theorem rowVal_apply (val : FVec F S11x152x152 .f32) (y : ℕ) (h : y < 152) (x : S1x1x152x11.Idx) :
    rowVal val y h x = val (ix3 (x 3) ⟨y, h⟩ (x 2)) := by
  pointwise [rowVal]

/-- What the loads read is the whole of the two windows. -/
theorem loaded_eq : loaded i arg2 harg2 arg3 harg3 x0 x1 = k0_pay5 (k0_pay3 x1) (x0 (ix1 0)) (firstRow i) (k0_pay4 i) := by
  have hz : (![0, 0, 0, 0] : Fin 4 → ℕ) = fun _ => 0 := funext fun a => by fin_cases a <;> rfl
  have hz1 : (![0] : Fin 1 → ℕ) = fun _ => 0 := funext fun a => by fin_cases a; rfl
  unfold loaded
  simp only [View.readAt_eq_ld, harg2.read_unread, harg3.read_unread, View.ld_unit_zero (S := S1x14x152x152) hz, View.ld_unit_zero (S := S1) hz1]
  congr 2
  refine (congrFun (View.ld_unit_zero (S := S1) hz1 _ x0) _).trans (congrArg x0 ?_)
  funext a
  exact Fin.ext (by have := (ix1 (0 : Fin 1) a).isLt; have := (Shape.Idx.first (s := S1) (by decide) a).isLt; fin_cases a; simp [S1] at *; omega)

/-- An array's place in the block: channel `j 3` at image row `j 2 / 152`, column `j 2 % 152`. -/
def place (j : S1x1x23104x11.Idx) : S11x152x152.Idx :=
  ix3 (j 3) ⟨(j 2).val / 152, Nat.div_lt_of_lt_mul (j 2).isLt⟩ ⟨(j 2).val % 152, Nat.mod_lt _ (by decide)⟩

/-- Every store of the list writes the array's own values at its places. -/
theorem rows_agree (val : FVec F S11x152x152 .f32) (p : View.Piece (Elt F) S1x1x23104x11 .f32) (hp : p ∈ rows val 152 le_rfl)
    (x : p.1.shape.Idx) : p.2 x = val (place (p.1.emb x)) := by
  obtain ⟨y, hy, rfl⟩ := mem_rows _ _ _ _ hp
  refine (rowVal_apply val y hy x).trans (congrArg val ?_)
  have h2 : ((rowRect y hy).emb x 2).val = 152 * y + (x 2).val := by show 152 * y + 1 * (x 2).val = _; omega
  have h3 : ((rowRect y hy).emb x 3).val = (x 3).val := by show 0 + 1 * (x 3).val = _; omega
  have hx : (x 2).val < 152 := (x 2).isLt
  refine congr (congrArg₂ ix3 (Fin.ext h3.symm) (Fin.ext ?_)) (Fin.ext ?_)
  · show y = ((rowRect y hy).emb x 2).val / 152
    omega
  · show (x 2).val = ((rowRect y hy).emb x 2).val % 152
    omega

/-- What the point leaves in its block: the array, place by place. -/
theorem out_apply (j : S1x1x23104x11.Idx) :
    out0_A_2 c i arg2 harg2 arg3 harg3 arg4 harg4 x0 x1 j
      = k0_pay5 (k0_pay3 x1) (x0 (ix1 0)) (firstRow i) (k0_pay4 i) (place j) := by
  unfold out0_A_2
  rw [← loaded_eq i arg2 harg2 arg3 harg3 x0 x1]
  exact View.read_writes_apply_of_pieces _ _ (fun j => loaded i arg2 harg2 arg3 harg3 x0 x1 (place j)) _
    (fun p hp x => rows_agree _ p (pieces_eq c i arg2 harg2 arg3 harg3 arg4 harg4 x0 x1 ▸ hp) x) _
    (cover0_A_2 c i arg2 harg2 arg3 harg3 arg4 harg4 x0 x1 _)

end Cert.Proof.Rows

end
-- ==== Proof.KernelValue.lean ====
/-
  The kernel's whole result.

  Grid point (b, a) reads predictions 14·a … 14·a + 13 of sample `b` and writes block (b, a) of an 8×3×23104×11 array, which
  a last host operation lays out anew as 8×69312×11. The blocks tile the array, so it ends as ONE function of the arguments
  (`boxes`), and the result is that function's new layout.
-/
module

public import proofs.«01_k».proof.Proof.KernelRows
public import Idealize.ShloMosaic.Lib.Pipeline.ValueKit
public import Idealize.ShloMosaic.Lib.Claim

@[expose] public section

set_option maxRecDepth 16384

noncomputable section

namespace Cert.Proof.KernelValue

open Cert.KernelIdeal Cert.KernelIdeal.Gen Idealize.ShloMosaic Idealize.ShloMosaic.TcCoe Idealize.SL.Sem
open Idealize.ShloMosaic.Pipeline (Dat)
open Cert.Proof.Rows

variable {F : FTy → Type} [FloatOps F]
variable (m : (ℓ : Loc nD τ sig) → Buf (Elt F) ℓ) (ρ : Dev nD → PrngReg)

/-- The stride the host computes: the image size as a float over 152. -/
def stride (n : IVec S_ 32) : FVec F S_ .f32 := Host.divf (sitofp .f32 n) (constant S_ .f32 0x43180000#32)

/-- The predictions grid point (b, a) reads. -/
def preds (X : FVec F S8x42x152x152 .f32) (b : Fin 8) (a : Fin 3) : FVec F S14x152x152 .f32 :=
  fun i => X (ix4 b ⟨14 * a.val + (i 0).val, by have : (i 0).val < 14 := (i 0).isLt; omega⟩ (i 1) (i 2))

/-- The array the pipeline leaves. -/
def boxes (X : FVec F S8x42x152x152 .f32) (s : F .f32) : FVec F S8x3x23104x11 .f32 :=
  fun j => k0_pay5 (preds X (j 0) (j 1)) s (firstRow (fun | 0 => j 0 | 1 => j 1)) (k0_pay4 (fun | 0 => j 0 | 1 => j 1))
    (place (ix4 0 0 (j 2) (j 3)))

/-- The windows' index maps, at every point. -/
theorem idx : ∀ t : Fin cfg0.N, win0_0.index t = ![0] ∧ win0_1.index t = ![(grid0.coords t 0).val, (grid0.coords t 1).val, 0, 0]
    ∧ win0_2.index t = ![(grid0.coords t 0).val, (grid0.coords t 1).val, 0, 0] :=
  (by decide +kernel : ∀ t : Fin grid0.N, _)

/-- The block of predictions point `t` reads. -/
theorem block_preds (c : Dev nD) (t : Fin cfg0.N) :
    k0_pay3 (iblk m c 1 t) = preds (m ((c : Thread nD τ).loc main_arg0)) (grid0.coords t 0) (grid0.coords t 1) := by
  funext i
  idx_vars i
  pointwise [k0_pay3, preds]
  blk_point [iblk, V, idx t]

/-- The one word window 0 stages: the stride. -/
theorem block_stride (c : Dev nD) (t : Fin cfg0.N) : iblk m c 0 t (ix1 0) = stride (m ((c : Thread nD τ).loc main_arg1)) ix0 := by
  have hV : V m c main_call0_v2 = shapeCast S1 (stride (m ((c : Thread nD τ).loc main_arg1))) shapeCasts_S_S1 := by
    simp only [V, V0, hostOps0, List.flatten_cons, List.flatten_nil, List.append_nil]
    after_results
    rfl
  blk_simp [iblk, idx t]
  show V m c main_call0_v2 _ = _
  rw [hV]
  pointwise

/-- The pipeline's array after the run. -/
theorem final (c : Dev nD) : (dats m 0 c).arrAt 2 (cfgs 0).N
    = boxes (m ((c : Thread nD τ).loc main_arg0)) (stride (m ((c : Thread nD τ).loc main_arg1)) ix0) := by
  refine (dats m 0 c).arrAt_eq_of_covers 2 _ (by decide +kernel) fun t _ y => ?_
  blk_simp
  rw [after0_2]
  unfold outsAt0
  rw [out_apply, block_preds m c t, block_stride m c t]
  idx_vars y
  have he : (((View.whole main_call0_v3).slice (win0_2.rect t)).emb (ix4 y0 y1 y2 y3)) = ix4 (grid0.coords t 0) (grid0.coords t 1) y2 y3 := by
    blk_ext [idx t]
  rw [he]
  have hc : (grid0.coords t : grid0.Coords) = fun | 0 => grid0.coords t 0 | 1 => grid0.coords t 1 := by
    funext a
    fin_cases a <;> rfl
  unfold boxes
  dsimp only
  exact congrArg₂ (fun u v => k0_pay5 _ _ (firstRow u) (k0_pay4 v) _) hc hc

/-- The last host operation lays the pipeline's array out anew. -/
theorem tail_main_v0 (c : Dev nD) : Pipeline.afterTail₀ cfgs (dats m) 0 (V0 m) [hostOps1] c main_v0
    = shapeCast S8x69312x11 ((dats m 0 c).arrAt 2 (cfgs 0).N) shapeCasts_S8x3x23104x11_S8x69312x11 := by
  unfold Pipeline.afterTail₀
  simp only [List.flatten_cons, List.flatten_nil, List.append_nil, hostOps1]
  after_results
  exact congrArg (fun A => shapeCast S8x69312x11 A shapeCasts_S8x3x23104x11_S8x69312x11)
    (Pipeline.withArrays_arr (cfgs 0).spec launch0.win.arr_inj c (V0 m c) (fun w => (dats m 0 c).arrAt w (cfgs 0).N) 2)

/-- The kernel's run: its result is the array of boxes laid out anew, and the arguments end as they began. -/
theorem run : θ_run defs (onTc (τ := τ) (main (F := F))) ⟨m, fun _ => 0, ρ⟩ fun r => ∀ c : Dev nD,
      r.2.mem ((c.tc : Thread nD τ).loc main_v0) = shapeCast S8x69312x11 (boxes (m ((c : Thread nD τ).loc main_arg0)) (stride (m ((c : Thread nD τ).loc main_arg1)) ix0)) shapeCasts_S8x3x23104x11_S8x69312x11
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v0 (Pipeline.mem_restRefs_of main_v0 (by decide) (by decide))).trans
      ((tail_main_v0 m c).trans (by rw [final m c])), h.2 c⟩)
    (θ_run_and (run_main m ρ) (unchanged m ρ))

end Cert.Proof.KernelValue

end
-- ==== Proof.RefValue.lean ====
/-
  The reference's value.

  The reference is one straight line of host operations. What they compose to is written here as ONE function of the two arguments
  (`result`), built from the pieces its text names: the predictions with the channel last, a sigmoid, the pixel grid, the
  anchors over the stride, the direction.
-/
module

public import proofs.«01_k».proof.Proof.Gen.ReferenceIdeal
public import Idealize.ShloMosaic.Lib.Pointwise

@[expose] public section

set_option maxRecDepth 16384

noncomputable section

namespace Cert.Proof.RefValue

open Cert.ReferenceIdeal Cert.ReferenceIdeal.Gen Idealize.ShloMosaic Idealize.ShloMosaic.TcCoe Idealize.SL.Sem

variable {F : FTy → Type} [FloatOps F]

/-- The predictions, the fourteen channels last. -/
def pred (X : FVec F S8x42x152x152 .f32) : FVec F S8x3x152x152x14 .f32 :=
  transpose S8x3x152x152x14 [0, 1, 3, 4, 2] (shapeCast S8x3x14x152x152 X shapeCasts_S8x42x152x152_S8x3x14x152x152)
    transposes_S8x3x14x152x152_S8x3x152x152x14_0_1_3_4_2

/-- One scalar over the whole 8×3×152×152 shape. -/
def wide (w : BitVec 32) : FVec F S8x3x152x152 .f32 := broadcastInDim S8x3x152x152 ![] bcast_S_S8x3x152x152 (constant S_ .f32 w)

/-- The sigmoid of one channel. -/
def sigm (x : FVec F S8x3x152x152 .f32) : FVec F S8x3x152x152 .f32 :=
  Host.divf (wide 0x3F800000#32) (addf (wide 0x3F800000#32) (Host.exp (Host.negf x)))

/-- The scaled sigmoid of a box centre. -/
def centre (x : FVec F S8x3x152x152 .f32) : FVec F S8x3x152x152 .f32 :=
  subf (mulf (sigm x) (wide 0x3F866666#32)) (wide 0x3CCCCCCD#32)

/-- One channel's slice, its last axis dropped. -/
def drop (x : FVec F S8x3x152x152x1 .f32) : FVec F S8x3x152x152 .f32 := shapeCast S8x3x152x152 x shapeCasts_S8x3x152x152x1_S8x3x152x152

/-- One channel with a last axis of one. -/
def keep (x : FVec F S8x3x152x152 .f32) : FVec F S8x3x152x152x1 .f32 :=
  broadcastInDim S8x3x152x152x1 ![0, 1, 2, 3] bcast_S8x3x152x152_S8x3x152x152x1_0_1_2_3 x

/-- The seven channels read one at a time. -/
def ch0 (X : FVec F S8x42x152x152 .f32) := drop (extractStridedSlice S8x3x152x152x1 ![0, 0, 0, 0, 0] (pred X) slices_S8x3x152x152x14_S8x3x152x152x1_0_0_0_0_0)
def ch1 (X : FVec F S8x42x152x152 .f32) := drop (extractStridedSlice S8x3x152x152x1 ![0, 0, 0, 0, 1] (pred X) slices_S8x3x152x152x14_S8x3x152x152x1_0_0_0_0_1)
def ch2 (X : FVec F S8x42x152x152 .f32) := drop (extractStridedSlice S8x3x152x152x1 ![0, 0, 0, 0, 2] (pred X) slices_S8x3x152x152x14_S8x3x152x152x1_0_0_0_0_2)
def ch3 (X : FVec F S8x42x152x152 .f32) := drop (extractStridedSlice S8x3x152x152x1 ![0, 0, 0, 0, 3] (pred X) slices_S8x3x152x152x14_S8x3x152x152x1_0_0_0_0_3)
def ch4 (X : FVec F S8x42x152x152 .f32) := drop (extractStridedSlice S8x3x152x152x1 ![0, 0, 0, 0, 4] (pred X) slices_S8x3x152x152x14_S8x3x152x152x1_0_0_0_0_4)
def ch5 (X : FVec F S8x42x152x152 .f32) := drop (extractStridedSlice S8x3x152x152x1 ![0, 0, 0, 0, 5] (pred X) slices_S8x3x152x152x14_S8x3x152x152x1_0_0_0_0_5)
def ch10 (X : FVec F S8x42x152x152 .f32) := drop (extractStridedSlice S8x3x152x152x1 ![0, 0, 0, 0, 10] (pred X) slices_S8x3x152x152x14_S8x3x152x152x1_0_0_0_0_10)

/-- The four direction channels. -/
def dirs (X : FVec F S8x42x152x152 .f32) : FVec F S8x3x152x152x4 .f32 :=
  extractStridedSlice S8x3x152x152x4 ![0, 0, 0, 0, 6] (pred X) slices_S8x3x152x152x14_S8x3x152x152x4_0_0_0_0_6

/-- The three class channels, each its sigmoid. -/
def classes (X : FVec F S8x42x152x152 .f32) : FVec F S8x3x152x152x3 .f32 :=
  Host.divf (broadcastInDim S8x3x152x152x3 ![] bcast_S_S8x3x152x152x3 (constant S_ .f32 0x3F800000#32))
    (addf (broadcastInDim S8x3x152x152x3 ![] bcast_S_S8x3x152x152x3 (constant S_ .f32 0x3F800000#32))
      (Host.exp (Host.negf (extractStridedSlice S8x3x152x152x3 ![0, 0, 0, 0, 11] (pred X) slices_S8x3x152x152x14_S8x3x152x152x3_0_0_0_0_11))))

/-- The stride: the image size as a float over 152. -/
def stride (n : IVec S_ 32) : FVec F S_ .f32 := Host.divf (sitofp .f32 n) (constant S_ .f32 0x43180000#32)

/-- The column numbers, on every row. -/
def columns : FVec F S152x152 .f32 :=
  shapeCast S152x152 (broadcastInDim S152x1x1x152 ![0, 1, 2, 3] bcast_S1x1x1x152_S152x1x1x152_0_1_2_3
    (shapeCast S1x1x1x152 (broadcastInDim S1x152 ![1] bcast_S152_S1x152_1 (sitofp .f32 (iotaInDim S152 32 0)))
      shapeCasts_S1x152_S1x1x1x152)) shapeCasts_S152x1x1x152_S152x152

/-- One pixel plane over the whole shape. -/
def plane (x : FVec F S152x152 .f32) : FVec F S8x3x152x152 .f32 :=
  broadcastInDim S8x3x152x152 ![0, 1, 2, 3] bcast_S1x1x152x152_S8x3x152x152_0_1_2_3 (shapeCast S1x1x152x152 x shapeCasts_S152x152_S1x1x152x152)

/-- The table of anchors. -/
def table : FVec F S3x4 .f32 := fun i => FloatOps.ofBits .f32 (lit0 (S3x4.rowMajor i))

/-- One column of the table over the stride, over the whole shape. -/
def anchor (x : FVec F S3x1 .f32) (s : FVec F S_ .f32) : FVec F S8x3x152x152 .f32 :=
  broadcastInDim S8x3x152x152 ![0, 1, 2, 3] bcast_S1x3x1x1_S8x3x152x152_0_1_2_3
    (shapeCast S1x3x1x1 (Host.divf (shapeCast S3 x shapeCasts_S3x1_S3) (broadcastInDim S3 ![] bcast_S_S3 s)) shapeCasts_S3_S1x3x1x1)

/-- The four box channels, before the stride. -/
def box (X : FVec F S8x42x152x152 .f32) (s : FVec F S_ .f32) : FVec F S8x3x152x152x4 .f32 :=
  concatenate S8x3x152x152x4 4
    [⟨S8x3x152x152x1, keep (addf (centre (ch0 X)) (plane columns))⟩,
     ⟨S8x3x152x152x1, keep (addf (centre (ch1 X)) (plane (transpose S152x152 [1, 0] columns transposes_S152x152_S152x152_1_0)))⟩,
     ⟨S8x3x152x152x1, keep (mulf (Host.exp (ch2 X)) (anchor (extractStridedSlice S3x1 ![0, 0] table slices_S3x4_S3x1_0_0) s))⟩,
     ⟨S8x3x152x152x1, keep (mulf (Host.exp (ch3 X)) (anchor (extractStridedSlice S3x1 ![0, 1] table slices_S3x4_S3x1_0_1) s))⟩]
    concatenates_S8x3x152x152x1_S8x3x152x152x1_S8x3x152x152x1_S8x3x152x152x1_S8x3x152x152x4_d4

/-- The direction: the place of the greatest of the four. -/
def best (X : FVec F S8x42x152x152 .f32) : IVec S8x3x152x152 32 := fun j =>
  (Host.argReduce reducer_argmax_f32_i32 (dirs X) (iotaInDim S8x3x152x152x4 32 4) (constant S_ .f32 0xFF800000#32)
    (constantI S_ 32 0#32) reducesTo_S8x3x152x152x4_S8x3x152x152_d4 h_S_ j).2

/-- The two angle channels and the direction. -/
def angle (X : FVec F S8x42x152x152 .f32) : FVec F S8x3x152x152x3 .f32 :=
  concatenate S8x3x152x152x3 4
    [⟨S8x3x152x152x1, keep (sigm (ch4 X))⟩, ⟨S8x3x152x152x1, keep (sigm (ch5 X))⟩, ⟨S8x3x152x152x1, keep (sitofp .f32 (best X))⟩]
    concatenates_S8x3x152x152x1_S8x3x152x152x1_S8x3x152x152x1_S8x3x152x152x3_d4

/-- The reference's result. -/
def result (X : FVec F S8x42x152x152 .f32) (n : IVec S_ 32) : FVec F S8x69312x11 .f32 :=
  concatenate S8x69312x11 2
    [⟨S8x69312x4, mulf (shapeCast S8x69312x4 (box X (stride n)) shapeCasts_S8x3x152x152x4_S8x69312x4)
        (broadcastInDim S8x69312x4 ![] bcast_S_S8x69312x4 (stride n))⟩,
     ⟨S8x69312x3, shapeCast S8x69312x3 (angle X) shapeCasts_S8x3x152x152x3_S8x69312x3⟩,
     ⟨S8x69312x1, shapeCast S8x69312x1 (sigm (ch10 X)) shapeCasts_S8x3x152x152_S8x69312x1⟩,
     ⟨S8x69312x3, shapeCast S8x69312x3 (classes X) shapeCasts_S8x3x152x152x3_S8x69312x3⟩]
    concatenates_S8x69312x4_S8x69312x3_S8x69312x1_S8x69312x3_S8x69312x11_d2

end Cert.Proof.RefValue
-- ==== Proof.RefRun.lean ====
/-
  The reference's run: its straight line of host operations leaves `RefValue.result` of the arguments.
-/
module

public import proofs.«01_k».proof.Proof.RefValue
public import Idealize.ShloMosaic.Lib.Claim

@[expose] public section

noncomputable section

namespace Cert.Proof.RefRun

open Cert.ReferenceIdeal Cert.ReferenceIdeal.Gen Idealize.ShloMosaic Idealize.ShloMosaic.TcCoe Idealize.SL.Sem
open Cert.Proof.RefValue

variable {F : FTy → Type} [FloatOps F]
variable (m : (ℓ : Loc nD τ sig) → Buf (Elt F) ℓ) (ρ : Dev nD → PrngReg)

open Idealize.ShloMosaic.StableHlo

/-- Lists of pieces are equal when their heads' values and their tails are. -/
theorem piece {α : Type} {s : Shape} {v w : s.Idx → α} {xs ys : List ((s : Shape) × (s.Idx → α))} (h : v = w) (e : xs = ys) :
    ((⟨s, v⟩ : (s : Shape) × (s.Idx → α)) :: xs) = ⟨s, w⟩ :: ys := by
  subst h e; rfl

set_option maxRecDepth 16384
set_option maxHeartbeats 40000000 in
/-- The reference from any memory: its result is `result` of the arguments, which end as they began. -/
theorem run :
    θ_run defs (onTc (τ := τ) (main (F := F))) ⟨m, fun _ => 0, ρ⟩ fun r => ∀ c : Dev nD,
      r.2.mem ((c : Thread nD τ).loc main_v114) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine θ_run_mono (run_hlo _ _ (by hlo_seq) (by decide) (by decide) (by simp) ?_ m ρ) fun r h c =>
    ⟨(h c main_v114).trans ?_, (h c main_arg0).trans (by after_results_simp), (h c main_arg1).trans (by after_results_simp)⟩
  · intro _ h
    repeat (cases h with | head => rfl | tail _ h => ?_)
    exact nomatch h
  · after_results_simp
    refine concatenate_congr _ _ ?_ _ _
    refine piece ?_ (piece ?_ (piece ?_ (piece ?_ rfl)))
    · dsimp only [Matrix.cons_val]
      after_results_simp
      refine congrArg₂ mulf (congrArg (fun z => shapeCast S8x69312x4 z shapeCasts_S8x3x152x152x4_S8x69312x4) ?_) rfl
      refine concatenate_congr _ _ ?_ _ _
      refine piece ?_ (piece ?_ (piece ?_ (piece ?_ rfl))) <;> dsimp only [Matrix.cons_val] <;> after_results_simp <;> rfl
    · dsimp only [Matrix.cons_val]
      after_results_simp
      refine congrArg (fun z => shapeCast S8x69312x3 z shapeCasts_S8x3x152x152x3_S8x69312x3) ?_
      refine concatenate_congr _ _ ?_ _ _
      refine piece ?_ (piece ?_ (piece ?_ rfl)) <;> dsimp only [Matrix.cons_val] <;> after_results_simp <;> rfl
    · dsimp only [Matrix.cons_val]
      after_results_simp
      rfl
    · dsimp only [Matrix.cons_val]
      after_results_simp
      rfl

end Cert.Proof.RefRun

end
-- ==== Proof.Cells.lean ====
/-
  The reference's result, cell by cell.

  A cell is a sample `b`, an anchor `a`, an image row `y` and a column `x`; it has fourteen predictions and eleven results.
  Each result is a scalar function of the cell's predictions, its place and the stride.
-/
module

public import proofs.«01_k».proof.Proof.RefValue
public import Idealize.ShloMosaic.PureOps.Ideal.Laws

@[expose] public section

set_option maxRecDepth 16384

noncomputable section

namespace Cert.Proof.Cells

open Cert.ReferenceIdeal Cert.ReferenceIdeal.Gen Idealize.ShloMosaic Idealize.ShloMosaic.TcCoe
open Cert.Proof.RefValue

variable {F : FTy → Type} [FloatOps F]
variable (X : FVec F S8x42x152x152 .f32) (n : IVec S_ 32) (b : Fin 8) (a : Fin 3) (y x : Fin 152)

/-- A cell's prediction `k`. -/
def px (k : Fin 14) : F .f32 := X (ix4 b ⟨14 * a.val + k.val, by omega⟩ y x)

/-- A cell's place among the 69312 of its sample. -/
def spot (a : Fin 3) (y x : Fin 152) : Fin 69312 := ⟨(a.val * 152 + y.val) * 152 + x.val, by omega⟩

/-- The sigmoid as the reference spells it. -/
def sg (v : F .f32) : F .f32 :=
  FloatOps.hostDivf (FloatOps.ofBits .f32 0x3F800000#32)
    (FloatOps.addf (FloatOps.ofBits .f32 0x3F800000#32) (FloatOps.hostUnary .exp (FloatOps.hostNegf v)))

/-- A box centre: the scaled sigmoid and the pixel's number. -/
def ctr (v : F .f32) (p : ℕ) : F .f32 :=
  FloatOps.addf (FloatOps.subf (FloatOps.mulf (sg v) (FloatOps.ofBits .f32 0x3F866666#32)) (FloatOps.ofBits .f32 0x3CCCCCCD#32))
    (FloatOps.sitofp .f32 (BitVec.ofNat 32 p))

/-- The table's anchor `a`: its width (`q = 0`) or height (`q = 1`). -/
def anc (a : Fin 3) (q : Fin 4) : F .f32 := FloatOps.ofBits .f32 (lit0 (S3x4.rowMajor (ix2 a q)))

/-- A box size: the exponential and the anchor over the stride. -/
def siz (v c s : F .f32) : F .f32 := FloatOps.mulf (FloatOps.hostUnary .exp v) (FloatOps.hostDivf c s)

/-- The rearranged predictions, at a cell. -/
theorem pred_apply (k : Fin 14) : pred X (ix5 b a y x k) = px X b a y x k := by
  pointwise [pred, px]
  first | done | (congr 2; apply Fin.ext; simp; omega)

/-- The sigmoid of an array, at a cell. -/
theorem sigm_apply (v : FVec F S8x3x152x152 .f32) : sigm v (ix4 b a y x) = sg (v (ix4 b a y x)) := by
  pointwise [sigm, wide, sg]

/-- The scaled and shifted sigmoid of an array, at a cell. -/
theorem centre_apply (v : FVec F S8x3x152x152 .f32) :
    centre v (ix4 b a y x)
      = FloatOps.subf (FloatOps.mulf (sg (v (ix4 b a y x))) (FloatOps.ofBits .f32 0x3F866666#32)) (FloatOps.ofBits .f32 0x3CCCCCCD#32) := by
  pointwise [centre, wide, sigm_apply]

/-- The grid of column numbers, at a cell. -/
theorem columns_apply : plane (columns (F := F)) (ix4 b a y x) = FloatOps.sitofp .f32 (BitVec.ofNat 32 x.val) := by
  pointwise [plane, columns]

/-- The grid of row numbers, at a cell. -/
theorem rows_apply : plane (transpose S152x152 [1, 0] (columns (F := F)) transposes_S152x152_S152x152_1_0) (ix4 b a y x)
    = FloatOps.sitofp .f32 (BitVec.ofNat 32 y.val) := by
  pointwise [plane, columns]

/-! ### The eleven results -/

/-- Result 0: the box centre's column, from prediction 0. -/
theorem result_0 : result X n (ix3 b (spot a y x) 0) = FloatOps.mulf (ctr (px X b a y x 0) x.val) (stride n ix0) := by
  pointwise [result, spot, box, keep, centre_apply, columns_apply, ctr, ch0, drop, pred_apply]

/-- Result 1: the box centre's row, from prediction 1. -/
theorem result_1 : result X n (ix3 b (spot a y x) 1) = FloatOps.mulf (ctr (px X b a y x 1) y.val) (stride n ix0) := by
  pointwise [result, spot, box, keep, centre_apply, ctr, ch1, drop, pred_apply]
  rw [rows_apply]

/-- Result 2: the box width, from prediction 2 and the anchor's width. -/
theorem result_2 : result X n (ix3 b (spot a y x) 2)
    = FloatOps.mulf (siz (px X b a y x 2) (anc a 0) (stride n ix0)) (stride n ix0) := by
  pointwise [result, spot, box, keep, siz, anchor, table, anc, ch2, drop, pred_apply]

/-- Result 3: the box height, from prediction 3 and the anchor's height. -/
theorem result_3 : result X n (ix3 b (spot a y x) 3)
    = FloatOps.mulf (siz (px X b a y x 3) (anc a 1) (stride n ix0)) (stride n ix0) := by
  pointwise [result, spot, box, keep, siz, anchor, table, anc, ch3, drop, pred_apply]

/-- Result 4: the sigmoid of prediction 4. -/
theorem result_4 : result X n (ix3 b (spot a y x) 4) = sg (px X b a y x 4) := by
  pointwise [result, spot, angle, keep, sigm_apply, ch4, drop, pred_apply]

/-- Result 5: the sigmoid of prediction 5. -/
theorem result_5 : result X n (ix3 b (spot a y x) 5) = sg (px X b a y x 5) := by
  pointwise [result, spot, angle, keep, sigm_apply, ch5, drop, pred_apply]

/-- Result 6: the number of the direction, of predictions 6 to 9. -/
theorem result_6 : result X n (ix3 b (spot a y x) 6) = FloatOps.sitofp .f32 (best X (ix4 b a y x)) := by
  pointwise [result, spot, angle, keep]

/-- Result 7: the sigmoid of prediction 10. -/
theorem result_7 : result X n (ix3 b (spot a y x) 7) = sg (px X b a y x 10) := by
  pointwise [result, spot, sigm_apply, ch10, drop, pred_apply]

/-- Result 8: the sigmoid of prediction 11. -/
theorem result_8 : result X n (ix3 b (spot a y x) 8) = sg (px X b a y x 11) := by
  pointwise [result, spot, classes, sg, pred_apply]

/-- Result 9: the sigmoid of prediction 12. -/
theorem result_9 : result X n (ix3 b (spot a y x) 9) = sg (px X b a y x 12) := by
  pointwise [result, spot, classes, sg, pred_apply]

/-- Result 10: the sigmoid of prediction 13. -/
theorem result_10 : result X n (ix3 b (spot a y x) 10) = sg (px X b a y x 13) := by
  pointwise [result, spot, classes, sg, pred_apply]

/-- The direction predictions of a cell are its predictions 6 to 9. -/
theorem dirs_apply (k : Fin 4) : dirs X (ix5 b a y x k) = px X b a y x ⟨6 + k.val, by omega⟩ := by
  pointwise [dirs, pred_apply]

end Cert.Proof.Cells

end
-- ==== Proof.KernelCells.lean ====
/-
  The kernel's result, cell by cell.

  The twin of the reference's reading: a cell is a sample `b`, an anchor `a`, an image row `y` and a column `x`, and each of
  its eleven results is a scalar function of its fourteen predictions, its place and the stride.
-/
module

public import proofs.«01_k».proof.Proof.KernelValue
public import proofs.«01_k».proof.Proof.Cells

@[expose] public section

set_option maxRecDepth 16384

noncomputable section

namespace Cert.Proof.KernelCells

open Cert.KernelIdeal Cert.KernelIdeal.Gen Idealize.ShloMosaic Idealize.ShloMosaic.TcCoe
open Cert.Proof.Rows Cert.Proof.KernelValue
open Cert.Proof.Cells (px spot anc)

variable {F : FTy → Type} [FloatOps F]
variable (X : FVec F S8x42x152x152 .f32) (s : F .f32) (b : Fin 8) (a : Fin 3) (y x : Fin 152)

/-- Grid point (b, a). -/
def pt (b : Fin 8) (a : Fin 3) : grid0.Coords := fun | 0 => b | 1 => a

/-- A cell's result `q`, as the body computes it. -/
def cell (q : Fin 11) : F .f32 := k0_pay5 (preds X b a) s (firstRow (pt b a)) (k0_pay4 (pt b a)) (ix3 q y x)

/-- Every point's block begins at image row 0. -/
theorem firstRow_eq : ∀ (b : Fin 8) (a : Fin 3), firstRow (pt b a) = 0#32 := by
  decide +kernel

/-- The kernel's result at a cell's place is what the body computes there. -/
theorem boxes_apply (a : Fin 3) (q : Fin 11) :
    shapeCast S8x69312x11 (boxes X s) shapeCasts_S8x3x23104x11_S8x69312x11 (ix3 b (spot a y x) q) = cell X s b a y x q := by
  have hj : ∀ r : Fin 23104, r.val = y.val * 152 + x.val → place (ix4 0 0 r q) = ix3 q y x := fun r hr =>
    congr (congrArg₂ ix3 rfl (Fin.ext (by show r.val / 152 = _; omega))) (Fin.ext (by show r.val % 152 = _; omega))
  pointwise [spot]
  exact congrArg (k0_pay5 (preds X b a) s (firstRow (pt b a)) (k0_pay4 (pt b a)))
    (hj _ (by show ((a.val * 152 + y.val) * 152 + x.val) % 23104 = _; omega))

/-- The two planes of anchors a point builds hold its anchor's width and height throughout. -/
theorem sizes : k0_pay4 (F := F) (pt b a) = fun j => anc a ⟨(j 0).val, by have : (j 0).val < 2 := (j 0).isLt; omega⟩ := by
  funext j
  idx_vars j
  fin_cases a <;> fin_cases j0 <;> pointwise [k0_pay4, anc, pt]
  all_goals rfl

/-- A box centre as the kernel computes it: the scaled sigmoid and the pixel's number. -/
def ctrK (v : F .f32) (p : ℕ) : F .f32 :=
  FloatOps.addf (FloatOps.subf (FloatOps.mulf (FloatOps.logistic v) (FloatOps.ofBits .f32 0x3F866666#32)) (FloatOps.ofBits .f32 0x3CCCCCCD#32))
    (FloatOps.sitofp .f32 (BitVec.ofNat 32 p))

/-- The number of the largest of four predictions, as the kernel's three comparisons choose it. -/
def turn (u : Fin 4 → F .f32) : F .f32 :=
  Scalar.select (FloatOps.cmpf .ogt (u 3) (FloatOps.maximumf (FloatOps.maximumf (u 0) (u 1)) (u 2))) (FloatOps.ofBits .f32 0x40400000#32)
    (Scalar.select (FloatOps.cmpf .ogt (u 2) (FloatOps.maximumf (u 0) (u 1))) (FloatOps.ofBits .f32 0x40000000#32)
      (Scalar.select (FloatOps.cmpf .ogt (u 1) (u 0)) (FloatOps.ofBits .f32 0x3F800000#32) (FloatOps.ofBits .f32 0#32)))

/-- Result 0: the box centre's column, from prediction 0. -/
theorem cell_0 : cell X s b a y x 0 = FloatOps.mulf (ctrK (px X b a y x 0) x.val) s := by
  unfold cell
  rw [firstRow_eq, sizes]
  pointwise [k0_pay5, preds, px, ctrK, turn]

/-- Result 1: the box centre's row, from prediction 1. -/
theorem cell_1 : cell X s b a y x 1 = FloatOps.mulf (ctrK (px X b a y x 1) y.val) s := by
  unfold cell
  rw [firstRow_eq, sizes]
  pointwise [k0_pay5, preds, px, ctrK, turn]
  rw [show IntOp.addi (BitVec.ofNat 32 y.val) 0#32 = BitVec.ofNat 32 y.val from BitVec.add_zero _]

/-- Result 2: the box width, from prediction 2 and the anchor's width. -/
theorem cell_2 : cell X s b a y x 2 = FloatOps.mulf (FloatOps.exp (px X b a y x 2)) (anc a 0) := by
  unfold cell
  rw [firstRow_eq, sizes]
  pointwise [k0_pay5, preds, px, ctrK, turn]

/-- Result 3: the box height, from prediction 3 and the anchor's height. -/
theorem cell_3 : cell X s b a y x 3 = FloatOps.mulf (FloatOps.exp (px X b a y x 3)) (anc a 1) := by
  unfold cell
  rw [firstRow_eq, sizes]
  pointwise [k0_pay5, preds, px, ctrK, turn]

/-- Result 4: the sigmoid of prediction 4. -/
theorem cell_4 : cell X s b a y x 4 = FloatOps.logistic (px X b a y x 4) := by
  unfold cell
  rw [firstRow_eq, sizes]
  pointwise [k0_pay5, preds, px, ctrK, turn]

/-- Result 5: the sigmoid of prediction 5. -/
theorem cell_5 : cell X s b a y x 5 = FloatOps.logistic (px X b a y x 5) := by
  unfold cell
  rw [firstRow_eq, sizes]
  pointwise [k0_pay5, preds, px, ctrK, turn]

/-- Result 6: the number of the direction, of predictions 6 to 9. -/
theorem cell_6 : cell X s b a y x 6 = turn fun k => px X b a y x ⟨6 + k.val, by omega⟩ := by
  unfold cell
  rw [firstRow_eq, sizes]
  pointwise [k0_pay5, preds, px, ctrK, turn]

/-- Result 7: the sigmoid of prediction 10. -/
theorem cell_7 : cell X s b a y x 7 = FloatOps.logistic (px X b a y x 10) := by
  unfold cell
  rw [firstRow_eq, sizes]
  pointwise [k0_pay5, preds, px, ctrK, turn]

/-- Result 8: the sigmoid of prediction 11. -/
theorem cell_8 : cell X s b a y x 8 = FloatOps.logistic (px X b a y x 11) := by
  unfold cell
  rw [firstRow_eq, sizes]
  pointwise [k0_pay5, preds, px, ctrK, turn]

/-- Result 9: the sigmoid of prediction 12. -/
theorem cell_9 : cell X s b a y x 9 = FloatOps.logistic (px X b a y x 12) := by
  unfold cell
  rw [firstRow_eq, sizes]
  pointwise [k0_pay5, preds, px, ctrK, turn]

/-- Result 10: the sigmoid of prediction 13. -/
theorem cell_10 : cell X s b a y x 10 = FloatOps.logistic (px X b a y x 13) := by
  unfold cell
  rw [firstRow_eq, sizes]
  pointwise [k0_pay5, preds, px, ctrK, turn]

end Cert.Proof.KernelCells

end
-- ==== Proof.Best.lean ====
/-
  The direction: the place of the greatest of four values.

  The reference folds (value, place) pairs along the last axis, keeping the greater value and, between equals, the smaller
  place. Over the extended reals that fold is three strict comparisons against the running maximum.
-/
module

public import proofs.«01_k».proof.Proof.Cells

@[expose] public section

set_option maxRecDepth 16384

noncomputable section

namespace Cert.Proof.Best

open Cert.ReferenceIdeal Cert.ReferenceIdeal.Gen Idealize.ShloMosaic Idealize.ShloMosaic.TcCoe
open Cert.Proof.RefValue Cert.Proof.Cells

variable (b : Fin 8) (a : Fin 3) (y x : Fin 152)

/-- A set of places given by an increasing enumeration, listed in order, is that enumeration. -/
theorem filter_eq_map {N K : ℕ} (p : Fin N → Bool) (g : Fin K → Fin N) (hg : ∀ {k l}, k < l → g k < g l)
    (hp : ∀ n, p n = true ↔ ∃ k, g k = n) : (List.finRange N).filter p = (List.finRange K).map g := by
  refine List.Perm.eq_of_pairwise (le := (· < ·)) (fun a b _ _ hab hba => absurd hab (lt_asymm hba))
    ((List.pairwise_lt_finRange _).filter _) ?_ ?_
  · rw [List.pairwise_map]
    exact (List.pairwise_lt_finRange K).imp fun h => hg h
  · refine (List.perm_ext_iff_of_nodup ((List.nodup_finRange _).filter _) ?_).mpr fun n => ?_
    · exact (List.nodup_finRange K).map fun k l e => le_antisymm
        (not_lt.mp fun h => (hg h).ne e.symm) (not_lt.mp fun h => (hg h).ne e)
    · simp only [List.mem_filter, List.mem_finRange, true_and, List.mem_map]
      exact hp n

/-- Place `k` of a cell's four, in the operand's row-major order. -/
def nth (k : Fin 4) : Fin S8x3x152x152x4.numel := S8x3x152x152x4.rowMajor (ix5 b a y x k)

/-- The four predictions are met in order. -/
theorem nth_lt {k l : Fin 4} (h : k < l) : nth b a y x k < nth b a y x l := by
  have hv : ∀ k, (nth b a y x k).val
      = b.val * (3 * (152 * (152 * 4))) + a.val * (152 * (152 * 4)) + y.val * (152 * 4) + x.val * 4 + k.val := fun k =>
    rowMajor_val5 (ix5 b a y x k) (3 * (152 * (152 * 4))) (152 * (152 * 4)) (152 * 4) 4 rfl rfl rfl rfl
  have := hv k
  have := hv l
  have : k.val < l.val := h
  exact Fin.lt_def.mpr (by omega)

/-- They are exactly the places that agree with the cell in every coordinate but the last. -/
theorem nth_iff (n : Fin S8x3x152x152x4.numel) :
    decide (reducesTo_S8x3x152x152x4_S8x3x152x152_d4.drop (S8x3x152x152x4.rowMajor.symm n) = ix4 b a y x) = true
      ↔ ∃ k, nth b a y x k = n := by
  rw [decide_eq_true_eq, Shape.ReducesTo.fiber_r5_a4]
  exact exists_congr fun k => Equiv.eq_symm_apply _

/-- The (value, place) pairs a cell's result folds, in order. -/
theorem pairs (X : FVec Ideal S8x3x152x152x4 .f32) :
    Host.argReduceFiber X (iotaInDim S8x3x152x152x4 32 4) reducesTo_S8x3x152x152x4_S8x3x152x152_d4 (ix4 b a y x)
      = (List.finRange 4).map fun k => (X (ix5 b a y x k), BitVec.ofNat 32 k.val) := by
  unfold Host.argReduceFiber
  rw [filter_eq_map _ (nth b a y x) (nth_lt b a y x) (nth_iff b a y x), List.map_map]
  refine List.map_congr_left fun k _ => ?_
  show (X (S8x3x152x152x4.rowMajor.symm (S8x3x152x152x4.rowMajor _)), iotaInDim S8x3x152x152x4 32 4 (S8x3x152x152x4.rowMajor.symm (S8x3x152x152x4.rowMajor _))) = _
  rw [Equiv.symm_apply_apply]
  rfl

/-- What the reference folds, at a cell. -/
theorem fold_apply (X : FVec Ideal S8x3x152x152x4 .f32) (v : S_.Idx → Ideal .f32) (w : S_.Idx → BitVec 32) :
    Host.argReduce reducer_argmax_f32_i32 X (iotaInDim S8x3x152x152x4 32 4) v w
        reducesTo_S8x3x152x152x4_S8x3x152x152_d4 h_S_ (ix4 b a y x)
      = ((List.finRange 4).map fun k => (X (ix5 b a y x k), BitVec.ofNat 32 k.val)).foldl reducer_argmax_f32_i32
          (v (Shape.Idx.first h_S_), w (Shape.Idx.first h_S_)) :=
  ((congrFun (Ideal.argReduce_eq_reduce2 _ _ _ _ _ _ _) _).trans (Host.reduce2_eq_foldl_fiber _ _ _ _ _ _ _ _)).trans
    (congrArg (List.foldl _ _) (pairs b a y x X))

/-- One step of the fold, the new place not before the kept one: the new value is kept where it is strictly greater. -/
theorem step (v w : Ideal .f32) (i k : BitVec 32) (h : i = k ∨ IntOp.cmpi .slt i k = 1#1) :
    reducer_argmax_f32_i32 (F := Ideal) (v, i) (w, k) = (max v w, if v < w then k else i) := by
  have hv : (v : EReal) < w ∨ (v : EReal) = w ∨ (w : EReal) < v := lt_trichotomy (α := EReal) v w
  rcases hv with hv | hv | hv
  · have h1 : ¬ (w : EReal) < v := not_lt.mpr hv.le
    have h2 : ¬ (v : EReal) = w := hv.ne
    simp [reducer_argmax_f32_i32, Ideal.cmpf_def, Ideal.cmp, Scalar.select, IntOp.ori, IntOp.andi, h1, h2, hv, hv.le]
  · subst hv
    rcases h with rfl | h
    · simp [reducer_argmax_f32_i32, Ideal.cmpf_def, Ideal.cmp, Scalar.select, IntOp.ori, IntOp.andi]
    · simp [reducer_argmax_f32_i32, Ideal.cmpf_def, Ideal.cmp, Scalar.select, IntOp.ori, IntOp.andi, h]
  · have h1 : ¬ (v : EReal) < w := not_lt.mpr hv.le
    have h2 : ¬ (v : EReal) = w := hv.ne'
    simp [reducer_argmax_f32_i32, Ideal.cmpf_def, Ideal.cmp, Scalar.select, IntOp.ori, IntOp.andi, h1, h2, hv, hv.le]

/-- The place of the greatest of four. -/
def top (u : Fin 4 → Ideal .f32) : BitVec 32 :=
  if max (max (u 0) (u 1)) (u 2) < u 3 then 3#32 else if max (u 0) (u 1) < u 2 then 2#32 else if u 0 < u 1 then 1#32 else 0#32

/-- The fold over four, from the least value. -/
theorem fold_four (u : Fin 4 → Ideal .f32) :
    (((List.finRange 4).map fun k => (u k, BitVec.ofNat 32 k.val)).foldl reducer_argmax_f32_i32 ((⊥ : EReal), 0#32)).2 = top u := by
  have hl : ((List.finRange 4).map fun k => (u k, BitVec.ofNat 32 k.val)) = [(u 0, 0#32), (u 1, 1#32), (u 2, 2#32), (u 3, 3#32)] := rfl
  rw [hl]
  simp only [List.foldl_cons, List.foldl_nil]
  rw [step _ _ _ _ (Or.inl rfl)]
  simp only [ite_self, bot_sup_eq]
  rw [step (u 0) (u 1) 0#32 1#32 (Or.inr (by decide)), step (max (u 0) (u 1)) (u 2) _ 2#32 (by split_ifs <;> exact Or.inr (by decide)),
    step (max (max (u 0) (u 1)) (u 2)) (u 3) _ 3#32 (by split_ifs <;> exact Or.inr (by decide))]
  rfl

/-- The reduction starts from minus infinity. -/
theorem least : Ideal.ofBits .f32 0xFF800000#32 = ⊥ := by simp [Ideal.ofBits, Ideal.ieee]

/-- The reference's choice is a fold over each cell's predictions and their numbers. -/
theorem best_eq (X : FVec Ideal S8x42x152x152 .f32) :
    best X = fun j => (Host.argReduce reducer_argmax_f32_i32 (dirs X) (iotaInDim S8x3x152x152x4 32 4)
      (constant S_ .f32 0xFF800000#32) (constantI S_ 32 0#32) reducesTo_S8x3x152x152x4_S8x3x152x152_d4 h_S_ j).2 := rfl

/-- At a cell it is `top` of the cell's four direction predictions. -/
theorem best_apply (X : FVec Ideal S8x42x152x152 .f32) :
    best X (ix4 b a y x) = top fun k => dirs X (ix5 b a y x k) := by
  rw [best_eq]
  show Prod.snd _ = _
  rw [fold_apply]
  refine Eq.trans ?_ (fold_four fun k => dirs X (ix5 b a y x k))
  rw [← least]
  rfl

end Cert.Proof.Best

end
-- ==== Proof.Equation.lean ====
/-
  The equation: over the ideal values, a nonzero image size makes the kernel's cells the reference's.

  Three spellings differ. The kernel asks for the sigmoid, the reference spells it 1 / (1 + exp (-v)). The kernel multiplies
  the exponential by the anchor, the reference by the anchor over the stride and then by the stride: the stride is a
  nonzero real, so it cancels. And the kernel chooses the direction by three comparisons, the reference by its argmax.
-/
module

public import proofs.«01_k».proof.Proof.KernelCells
public import proofs.«01_k».proof.Proof.Best

@[expose] public section

set_option maxRecDepth 16384

noncomputable section

namespace Cert.Proof.Equation

open Cert.KernelIdeal Idealize.ShloMosaic Idealize.ShloMosaic.TcCoe
open Cert.Proof.Cells Cert.Proof.KernelCells Cert.Proof.Best

/-- Reals multiply among the extended reals as they do among themselves. -/
theorem coe_of {p q t : ℝ} (h : p * q = t) : (p : EReal) * (q : EReal) = (t : EReal) := by
  rw [← EReal.coe_mul, h]

/-- The same for a product that is one. -/
theorem coe_one_of {p q : ℝ} (h : p * q = 1) : (p : EReal) * (q : EReal) = 1 := (coe_of h).trans EReal.coe_one

/-- The two sigmoids are one. -/
theorem sg_eq (v : Ideal .f32) : FloatOps.logistic v = sg v := by
  have h1 : (FloatOps.ofBits .f32 0x3F800000#32 : Ideal .f32) = (1 : EReal) := by
    show Ideal.ofBits .f32 0x3F800000#32 = _
    simp [Ideal.ofBits, Ideal.ieee]
    exact coe_one_of (by norm_num)
  unfold sg
  rw [h1]
  rfl

/-- So are the two centres. -/
theorem ctr_eq (v : Ideal .f32) (p : ℕ) : ctrK v p = ctr v p := by
  unfold ctrK ctr
  rw [sg_eq]

/-- The stride is a real number, zero only at image size zero. -/
theorem stride_real (n : IVec S_ 32) (hn : n ix0 ≠ 0#32) :
    ∃ r : ℝ, r ≠ 0 ∧ RefValue.stride (F := Ideal) n ix0 = (r : EReal) := by
  have h152 : (FloatOps.ofBits .f32 0x43180000#32 : Ideal .f32) = ((152 : ℝ) : EReal) := by
    show Ideal.ofBits .f32 0x43180000#32 = _
    simp [Ideal.ofBits, Ideal.ieee]
    exact coe_of (by norm_num)
  have hs : RefValue.stride (F := Ideal) n ix0 = Ideal.div (((n ix0).toInt : ℝ) : EReal) (FloatOps.ofBits .f32 0x43180000#32 : Ideal .f32) := rfl
  refine ⟨(n ix0).toInt * (1 / 152), mul_ne_zero ?_ (by norm_num), ?_⟩
  · intro h
    exact hn (BitVec.eq_of_toInt_eq (by exact_mod_cast h))
  · rw [hs, h152, Ideal.div_coe (by norm_num), EReal.coe_mul]

/-- A nonzero real stride divided out and multiplied back leaves a size as it was. -/
theorem siz_eq (v c : Ideal .f32) {r : ℝ} (hr : r ≠ 0) :
    FloatOps.mulf (siz v c ((r : EReal) : Ideal .f32)) ((r : EReal) : Ideal .f32) = FloatOps.mulf (FloatOps.exp v) c := by
  have h : ((1 / r : ℝ) : EReal) * (r : EReal) = 1 := by
    rw [← EReal.coe_mul, one_div, inv_mul_cancel₀ hr, EReal.coe_one]
  have hd : FloatOps.hostDivf c ((r : EReal) : Ideal .f32) = (c * ((1 / r : ℝ) : EReal) : EReal) := Ideal.div_coe hr c
  unfold siz
  rw [hd]
  show (FloatOps.exp v * (c * ((1 / r : ℝ) : EReal)) * (r : EReal) : EReal) = FloatOps.exp v * c
  rw [mul_assoc, mul_assoc, h, mul_one]

/-- The comparisons' direction is the argmax's. -/
theorem turn_eq (u : Fin 4 → Ideal .f32) : turn u = FloatOps.sitofp .f32 (top u) := by
  have h0 : (FloatOps.ofBits .f32 0#32 : Ideal .f32) = FloatOps.sitofp .f32 0#32 := by
    show Ideal.ofBits .f32 0#32 = (((0#32 : BitVec 32).toInt : ℝ) : EReal)
    simp [Ideal.ofBits, Ideal.ieee]
  have h1 : (FloatOps.ofBits .f32 0x3F800000#32 : Ideal .f32) = FloatOps.sitofp .f32 1#32 := by
    show Ideal.ofBits .f32 0x3F800000#32 = (((1#32 : BitVec 32).toInt : ℝ) : EReal)
    simp [Ideal.ofBits, Ideal.ieee]
    exact coe_one_of (by norm_num)
  have h2 : (FloatOps.ofBits .f32 0x40000000#32 : Ideal .f32) = FloatOps.sitofp .f32 2#32 := by
    show Ideal.ofBits .f32 0x40000000#32 = (((2#32 : BitVec 32).toInt : ℝ) : EReal)
    simp [Ideal.ofBits, Ideal.ieee]
    exact coe_of (by norm_num)
  have h3 : (FloatOps.ofBits .f32 0x40400000#32 : Ideal .f32) = FloatOps.sitofp .f32 3#32 := by
    show Ideal.ofBits .f32 0x40400000#32 = (((3#32 : BitVec 32).toInt : ℝ) : EReal)
    simp [Ideal.ofBits, Ideal.ieee]
    exact coe_of (by norm_num)
  have hc : ∀ (p q : Ideal .f32) (t e : Ideal .f32), Scalar.select (FloatOps.cmpf .ogt p q) t e = if q < p then t else e := by
    intro p q t e
    rw [Ideal.cmpf_def]
    by_cases h : q < p <;> simp [Ideal.cmp, Scalar.select, h]
  unfold turn top
  rw [hc, hc, hc, h0, h1, h2, h3]
  simp only [Ideal.maximumf_def]
  split_ifs <;> rfl

/-- Cell by cell, result by result. -/
theorem cell_eq (X : FVec Ideal S8x42x152x152 .f32) (n : IVec S_ 32) (hn : n ix0 ≠ 0#32) (b : Fin 8) (a : Fin 3) (y x : Fin 152) (q : Fin 11) :
    cell X (RefValue.stride n ix0) b a y x q = RefValue.result X n (ix3 b (spot a y x) q) := by
  obtain ⟨r, hr, hs⟩ := stride_real n hn
  match q with
  | 0 => rw [cell_0, result_0, ctr_eq]
  | 1 => rw [cell_1, result_1, ctr_eq]
  | 2 => rw [cell_2, result_2, hs, siz_eq _ _ hr]
  | 3 => rw [cell_3, result_3, hs, siz_eq _ _ hr]
  | 4 => rw [cell_4, result_4, sg_eq]
  | 5 => rw [cell_5, result_5, sg_eq]
  | 6 =>
    rw [cell_6, result_6, best_apply, turn_eq]
    exact congrArg (fun u => FloatOps.sitofp .f32 (top u)) (funext fun k => (dirs_apply X b a y x k).symm)
  | 7 => rw [cell_7, result_7, sg_eq]
  | 8 => rw [cell_8, result_8, sg_eq]
  | 9 => rw [cell_9, result_9, sg_eq]
  | 10 => rw [cell_10, result_10, sg_eq]

/-- Every place of a sample is some cell's. -/
theorem spot_surj (r : Fin 69312) : ∃ a y x, r = spot a y x :=
  ⟨⟨r.val / 23104, by omega⟩, ⟨r.val % 23104 / 152, by omega⟩, ⟨r.val % 152, by omega⟩, Fin.ext (by show r.val = (_ * 152 + _) * 152 + _; dsimp only; omega)⟩

/-- The kernel's result is the reference's. -/
theorem value (X : FVec Ideal S8x42x152x152 .f32) (n : IVec S_ 32) (hn : n ix0 ≠ 0#32) :
    shapeCast S8x69312x11 (KernelValue.boxes X (KernelValue.stride n ix0)) Gen.shapeCasts_S8x3x23104x11_S8x69312x11
      = RefValue.result X n := by
  funext j
  obtain ⟨a, y, x, h⟩ := spot_surj (j 1)
  have hj : j = ix3 (j 0) (spot a y x) (j 2) := by
    rw [← h]
    funext i
    fin_cases i <;> rfl
  rw [hj]
  exact (boxes_apply X _ (j 0) y x a (j 2)).trans (cell_eq X n hn (j 0) a y x (j 2))

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_size_nonzero
public import proofs.«01_k».proof.Proof.KernelValue
public import proofs.«01_k».proof.Proof.RefRun
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments as they began and no semaphore raised. -/
theorem reference_frame {F : FTy → Type} [FloatOps F]
    (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run _ _ _).mono (fun r h => ⟨fun c => (h c).2, Idealize.ShloMosaic.sem_eq_zero_of_no_sems (by decide) r.2⟩) (RefRun.run m ρ)

/-- The precondition says the image size is not zero. -/
theorem size_ne_zero (X : FVec Ideal Cert.Pre_size_nonzero.S8x42x152x152 .f32) (n : IVec Cert.Pre_size_nonzero.S_ 32)
    (h : Cert.Pre_size_nonzero.fn X n = fun _ => 1#1) : n ix0 ≠ 0#32 := by
  intro h0
  have h1 := congrFun h ix0
  have h2 : Cert.Pre_size_nonzero.fn X n ix0 = IntOp.cmpi .ne (n ix0) 0#32 := rfl
  rw [h2, h0] at h1
  exact absurd h1 (by decide)

/-- All the claims: the frames, and the kernel's result equal to the reference's. -/
theorem claim : Cert.Claim := ⟨Cert.Kernel.Gen.facts, Cert.KernelIdeal.Gen.facts, Cert.ReferenceIdeal.Gen.facts, Cert.Pre_size_nonzero.Gen.facts, by
  refine ⟨fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, ?_⟩
  intro m g m' g' hpre hagree
  refine ⟨_, KernelValue.run m g, (θ_run _ _ _).mono (fun r h c => ⟨(h c).1.trans ?_, (h c).2⟩) (RefRun.run m' g')⟩
  rw [(hagree c).1, (hagree c).2]
  exact (Equation.value _ _ (size_ne_zero _ _ (hpre c))).symm⟩

end Cert.Proof

end
